-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_time_grid [hPre_uniform_time_grid : Cert.Pre_uniform_time_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_time_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_time_grid [hPre_uniform_time_grid : Cert.Pre_uniform_time_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_time_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_uniform_time_grid [hKernelIdeal : Cert.KernelIdeal.Facts] [hPre_uniform_time_grid : Cert.Pre_uniform_time_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_time_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_uniform_time_grid [hReferenceIdeal : Cert.ReferenceIdeal.Facts] [hPre_uniform_time_grid : Cert.Pre_uniform_time_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_time_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_uniform_time_grid [hKernelIdeal : Cert.KernelIdeal.Facts] [hReferenceIdeal : Cert.ReferenceIdeal.Facts] [hPre_uniform_time_grid : Cert.Pre_uniform_time_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_time_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_uniform_time_grid : Cert.Pre_uniform_time_grid.Facts),
    quiescent_Kernel (hKernel := hKernel)
    ∧ quiescent_KernelIdeal (hKernelIdeal := hKernelIdeal)
    ∧ quiescent_KernelIdeal_pre_uniform_time_grid (hKernelIdeal := hKernelIdeal) (hPre_uniform_time_grid := hPre_uniform_time_grid)
    ∧ quiescent_ReferenceIdeal (hReferenceIdeal := hReferenceIdeal)
    ∧ quiescent_ReferenceIdeal_pre_uniform_time_grid (hReferenceIdeal := hReferenceIdeal) (hPre_uniform_time_grid := hPre_uniform_time_grid)
    ∧ preserves_Kernel_KernelIdeal
    ∧ algebraic_KernelIdeal_ReferenceIdeal_pre_uniform_time_grid (hKernelIdeal := hKernelIdeal) (hReferenceIdeal := hReferenceIdeal) (hPre_uniform_time_grid := hPre_uniform_time_grid)
-- ==== Pre_uniform_time_grid.lean ====
abbrev S1024x2 : Shape := ⟨2, ![1024, 2]⟩
abbrev S1024 : Shape := ⟨1, ![1024]⟩
abbrev S1024x2048x2 : Shape := ⟨3, ![1024, 2048, 2]⟩
abbrev S1024x2048 : Shape := ⟨2, ![1024, 2048]⟩
abbrev S1024x16 : Shape := ⟨2, ![1024, 16]⟩
abbrev S64x512x16 : Shape := ⟨3, ![64, 512, 16]⟩
abbrev S512x2 : Shape := ⟨2, ![512, 2]⟩
abbrev S64 : Shape := ⟨1, ![64]⟩
abbrev S16 : Shape := ⟨1, ![16]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S1024x2 .f32) (main_arg1 : FVec F S1024 .f32) (main_arg2 : FVec F S1024x2048x2 .f32) (main_arg3 : FVec F S1024x2048 .f32) (main_arg4 : FVec F S1024x16 .f32) (main_arg5 : FVec F S64x512x16 .f32) (main_arg6 : FVec F S512x2 .f32) (main_arg7 : FVec F S64 .f32) (main_arg8 : FVec F S16 .f32) (main_arg9 : FVec F S_ .f32) (main_arg10 : FVec F S_ .f32) (main_arg11 : FVec F S_ .f32) : IVec S_ 1 :=
  let main_v0 : IVec S64 32 := iotaInDim S64 32 0
  let main_v1 : FVec F S64 .f32 := sitofp .f32 main_v0
  let main_cst : FVec F S_ .f32 := constant S_ .f32 0x42800000#32
  let main_v2 : FVec F S64 .f32 := broadcastInDim S64 ![] bcast_S_S64 main_cst
  let main_v3 : FVec F S64 .f32 := Host.divf main_v1 main_v2
  let main_v4 : IVec S64 1 := cmpf .oeq main_arg7 main_v3
  let main_c : IVec S_ 1 := constantI S_ 1 1#1
  let main_v5 : IVec S_ 1 := (fun x v => Host.reduce IntOp.andi x v reducesTo_S64_S_d0 h_S_) main_v4 main_c
  let main_cst_0 : FVec F S_ .f32 := constant S_ .f32 0x00000000#32
  let main_v6 : IVec S_ 1 := cmpf .une main_arg10 main_cst_0
  let main_v7 : IVec S_ 1 := andi main_v5 main_v6
  main_v7
-- ==== Kernel.lean ====
abbrev S1024x2 : Shape := ⟨2, ![1024, 2]⟩
abbrev S1024 : Shape := ⟨1, ![1024]⟩
abbrev S1024x2048x2 : Shape := ⟨3, ![1024, 2048, 2]⟩
abbrev S1024x2048 : Shape := ⟨2, ![1024, 2048]⟩
abbrev S1024x16 : Shape := ⟨2, ![1024, 16]⟩
abbrev S64x512x16 : Shape := ⟨3, ![64, 512, 16]⟩
abbrev S512x2 : Shape := ⟨2, ![512, 2]⟩
abbrev S64 : Shape := ⟨1, ![64]⟩
abbrev S16 : Shape := ⟨1, ![16]⟩
abbrev S_ : Shape := ⟨0, ![]⟩
abbrev S1024x2x2048 : Shape := ⟨3, ![1024, 2, 2048]⟩
abbrev S64x16x512 : Shape := ⟨3, ![64, 16, 512]⟩
abbrev S1024x512 : Shape := ⟨2, ![1024, 512]⟩
abbrev S2x512 : Shape := ⟨2, ![2, 512]⟩
abbrev S1024x1 : Shape := ⟨2, ![1024, 1]⟩
abbrev S1x16 : Shape := ⟨2, ![1, 16]⟩
abbrev S64x16 : Shape := ⟨2, ![64, 16]⟩
abbrev S1024x20 : Shape := ⟨2, ![1024, 20]⟩
abbrev S1 : Shape := ⟨1, ![1]⟩
abbrev S3 : Shape := ⟨1, ![3]⟩
abbrev S1x3 : Shape := ⟨2, ![1, 3]⟩
abbrev S1x1152 : Shape := ⟨2, ![1, 1152]⟩
abbrev S4x1x1 : Shape := ⟨3, ![4, 1, 1]⟩
abbrev S256x20 : Shape := ⟨2, ![256, 20]⟩
abbrev S256x2x2048 : Shape := ⟨3, ![256, 2, 2048]⟩
abbrev S256x2048 : Shape := ⟨2, ![256, 2048]⟩
abbrev S256x512 : Shape := ⟨2, ![256, 512]⟩
abbrev S1x256 : Shape := ⟨2, ![1, 256]⟩
abbrev S1x1x1 : Shape := ⟨3, ![1, 1, 1]⟩
abbrev S1x1 : Shape := ⟨2, ![1, 1]⟩
abbrev S256x1 : Shape := ⟨2, ![256, 1]⟩
abbrev S256x1x2048 : Shape := ⟨3, ![256, 1, 2048]⟩
abbrev S256 : Shape := ⟨1, ![256]⟩
abbrev S256x16 : Shape := ⟨2, ![256, 16]⟩
abbrev S16x1 : Shape := ⟨2, ![16, 1]⟩
abbrev S1x512 : Shape := ⟨2, ![1, 512]⟩
abbrev S1x64 : Shape := ⟨2, ![1, 64]⟩
abbrev S256x64 : Shape := ⟨2, ![256, 64]⟩
abbrev S255x512 : Shape := ⟨2, ![255, 512]⟩
abbrev S254x512 : Shape := ⟨2, ![254, 512]⟩
abbrev S252x512 : Shape := ⟨2, ![252, 512]⟩
abbrev S4x512 : Shape := ⟨2, ![4, 512]⟩
abbrev S248x512 : Shape := ⟨2, ![248, 512]⟩
abbrev S8x512 : Shape := ⟨2, ![8, 512]⟩
abbrev S1025 : Shape := ⟨1, ![1025]⟩
abbrev S4x1 : Shape := ⟨2, ![4, 1]⟩
abbrev S1x1024 : Shape := ⟨2, ![1, 1024]⟩

abbrev nBuf : Space → Nat
  | .hbm => 31
  | .vmem => 18
  | .smem => 0
  | _ => 0

abbrev bufTy : (tb : Table) → Fin (tcTables nBuf tb) → BufTy
  | .hbm, ⟨0, _⟩ => ⟨S1024x2, .f32⟩
  | .hbm, ⟨1, _⟩ => ⟨S1024, .f32⟩
  | .hbm, ⟨2, _⟩ => ⟨S1024x2048x2, .f32⟩
  | .hbm, ⟨3, _⟩ => ⟨S1024x2048, .f32⟩
  | .hbm, ⟨4, _⟩ => ⟨S1024x16, .f32⟩
  | .hbm, ⟨5, _⟩ => ⟨S64x512x16, .f32⟩
  | .hbm, ⟨6, _⟩ => ⟨S512x2, .f32⟩
  | .hbm, ⟨7, _⟩ => ⟨S64, .f32⟩
  | .hbm, ⟨8, _⟩ => ⟨S16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024x2x2048, .f32⟩
  | .hbm, ⟨13, _⟩ => ⟨S64x16x512, .f32⟩
  | .hbm, ⟨14, _⟩ => ⟨S1024x512, .f32⟩
  | .hbm, ⟨15, _⟩ => ⟨S2x512, .f32⟩
  | .hbm, ⟨16, _⟩ => ⟨S1024x1, .f32⟩
  | .hbm, ⟨17, _⟩ => ⟨S1x16, .f32⟩
  | .hbm, ⟨18, _⟩ => ⟨S64x16, .f32⟩
  | .hbm, ⟨19, _⟩ => ⟨S1024, .f32⟩
  | .hbm, ⟨20, _⟩ => ⟨S1024x1, .f32⟩
  | .hbm, ⟨21, _⟩ => ⟨S1024x20, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S3, .f32⟩
  | .hbm, ⟨26, _⟩ => ⟨S1x3, .f32⟩
  | .hbm, ⟨27, _⟩ => ⟨S1x1152, .f32⟩
  | .hbm, ⟨28, _⟩ => ⟨S4x1x1, .f32⟩
  | .hbm, ⟨29, _⟩ => ⟨S1x64, .f32⟩
  | .hbm, ⟨30, _⟩ => ⟨S1025, .f32⟩
  | .local _ .vmem, ⟨0, _⟩ => ⟨S256x20, .f32⟩
  | .local _ .vmem, ⟨1, _⟩ => ⟨S256x20, .f32⟩
  | .local _ .vmem, ⟨2, _⟩ => ⟨S256x2x2048, .f32⟩
  | .local _ .vmem, ⟨3, _⟩ => ⟨S256x2x2048, .f32⟩
  | .local _ .vmem, ⟨4, _⟩ => ⟨S256x2048, .f32⟩
  | .local _ .vmem, ⟨5, _⟩ => ⟨S256x2048, .f32⟩
  | .local _ .vmem, ⟨6, _⟩ => ⟨S256x512, .f32⟩
  | .local _ .vmem, ⟨7, _⟩ => ⟨S256x512, .f32⟩
  | .local _ .vmem, ⟨8, _⟩ => ⟨S2x512, .f32⟩
  | .local _ .vmem, ⟨9, _⟩ => ⟨S1x3, .f32⟩
  | .local _ .vmem, ⟨10, _⟩ => ⟨S1x256, .f32⟩
  | .local _ .vmem, ⟨11, _⟩ => ⟨S1x256, .f32⟩
  | .local _ .vmem, ⟨12, _⟩ => ⟨S1x1x1, .f32⟩
  | .local _ .vmem, ⟨13, _⟩ => ⟨S1x1x1, .f32⟩
  | .local _ .vmem, ⟨14, _⟩ => ⟨S1x1152, .f32⟩
  | .local _ .vmem, ⟨15, _⟩ => ⟨S4x1x1, .f32⟩
  | .local _ .vmem, ⟨16, _⟩ => ⟨S1x64, .f32⟩
  | .local _ .vmem, ⟨17, _⟩ => ⟨S1025, .f32⟩
  | _, _ => ⟨S1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S1x1152 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1025 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S1024x2 : Shape := ⟨2, ![1024, 2]⟩
abbrev S1024 : Shape := ⟨1, ![1024]⟩
abbrev S1024x2048x2 : Shape := ⟨3, ![1024, 2048, 2]⟩
abbrev S1024x2048 : Shape := ⟨2, ![1024, 2048]⟩
abbrev S1024x16 : Shape := ⟨2, ![1024, 16]⟩
abbrev S64x512x16 : Shape := ⟨3, ![64, 512, 16]⟩
abbrev S512x2 : Shape := ⟨2, ![512, 2]⟩
abbrev S64 : Shape := ⟨1, ![64]⟩
abbrev S16 : Shape := ⟨1, ![16]⟩
abbrev S_ : Shape := ⟨0, ![]⟩
abbrev S1024x1 : Shape := ⟨2, ![1024, 1]⟩
abbrev S1024x1x2 : Shape := ⟨3, ![1024, 1, 2]⟩
abbrev S32768x16 : Shape := ⟨2, ![32768, 16]⟩
abbrev S1x512x1x2 : Shape := ⟨4, ![1, 512, 1, 2]⟩
abbrev S64x512x1x2 : Shape := ⟨4, ![64, 512, 1, 2]⟩
abbrev S32768x2 : Shape := ⟨2, ![32768, 2]⟩
abbrev S64x512 : Shape := ⟨2, ![64, 512]⟩
abbrev S32768 : Shape := ⟨1, ![32768]⟩
abbrev S1x32768 : Shape := ⟨2, ![1, 32768]⟩
abbrev S1024x32768 : Shape := ⟨2, ![1024, 32768]⟩
abbrev S1x32768x2 : Shape := ⟨3, ![1, 32768, 2]⟩
abbrev S1024x32768x2 : Shape := ⟨3, ![1024, 32768, 2]⟩
abbrev S1 : Shape := ⟨1, ![1]⟩
abbrev S1025 : Shape := ⟨1, ![1025]⟩

abbrev nBuf : Space → Nat
  | .hbm => 134
  | .vmem => 0
  | .smem => 0
  | _ => 0

abbrev hbmTy0_0 (i : Nat) : BufTy := match i % 128 with
  | 0 => ⟨S1024x2, .f32⟩
  | 1 => ⟨S1024, .f32⟩
  | 2 => ⟨S1024x2048x2, .f32⟩
  | 3 => ⟨S1024x2048, .f32⟩
  | 4 => ⟨S1024x16, .f32⟩
  | 5 => ⟨S64x512x16, .f32⟩
  | 6 => ⟨S512x2, .f32⟩
  | 7 => ⟨S64, .f32⟩
  | 8 => ⟨S16, .f32⟩
  | 9 => ⟨S_, .f32⟩
  | 10 => ⟨S_, .f32⟩
  | 11 => ⟨S_, .f32⟩
  | 12 => ⟨S1024, .f32⟩
  | 13 => ⟨S_, .f32⟩
  | 14 => ⟨S1024, .f32⟩
  | 15 => ⟨S1024, .f32⟩
  | 16 => ⟨S1024x1, .f32⟩
  | 17 => ⟨S1024x2048, .f32⟩
  | 18 => ⟨S1024x2048, .f32⟩
  | 19 => ⟨S_, .f32⟩
  | 20 => ⟨S1024x2048, .f32⟩
  | 21 => ⟨S1024x2048, .i1⟩
  | 22 => ⟨S1024x1x2, .f32⟩
  | 23 => ⟨S1024x2048x2, .f32⟩
  | 24 => ⟨S1024x2048x2, .f32⟩
  | 25 => ⟨S_, .f32⟩
  | 26 => ⟨S_, .f32⟩
  | 27 => ⟨S1024x2048, .f32⟩
  | 28 => ⟨S1024x2048, .f32⟩
  | 29 => ⟨S1024x2048x2, .f32⟩
  | 30 => ⟨S_, .f32⟩
  | 31 => ⟨S1024x2048, .f32⟩
  | 32 => ⟨S1024x2048, .f32⟩
  | 33 => ⟨S_, .f32⟩
  | 34 => ⟨S_, .f32⟩
  | 35 => ⟨S_, .f32⟩
  | 36 => ⟨S1024x2048, .f32⟩
  | 37 => ⟨S1024x2048, .f32⟩
  | 38 => ⟨S1024x2048, .f32⟩
  | 39 => ⟨S_, .f32⟩
  | 40 => ⟨S_, .f32⟩
  | 41 => ⟨S_, .f32⟩
  | 42 => ⟨S1024x2048, .f32⟩
  | 43 => ⟨S1024x2048, .f32⟩
  | 44 => ⟨S_, .f32⟩
  | 45 => ⟨S1024x2048, .f32⟩
  | 46 => ⟨S1024x2048, .f32⟩
  | 47 => ⟨S1024x2048, .f32⟩
  | 48 => ⟨S1024x2048, .f32⟩
  | 49 => ⟨S1024x2048, .f32⟩
  | 50 => ⟨S1024x2048, .f32⟩
  | 51 => ⟨S1024x2048, .f32⟩
  | 52 => ⟨S1024x2048, .f32⟩
  | 53 => ⟨S_, .f32⟩
  | 54 => ⟨S_, .f32⟩
  | 55 => ⟨S1024x2048, .f32⟩
  | 56 => ⟨S1024x2048, .f32⟩
  | 57 => ⟨S_, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S32768x16, .f32⟩
  | 65 => ⟨S1x512x1x2, .f32⟩
  | 66 => ⟨S64x512x1x2, .f32⟩
  | 67 => ⟨S32768x2, .f32⟩
  | 68 => ⟨S64x512, .f32⟩
  | 69 => ⟨S32768, .f32⟩
  | 70 => ⟨S32768, .f32⟩
  | 71 => ⟨S_, .f32⟩
  | 72 => ⟨S32768, .f32⟩
  | 73 => ⟨S32768, .f32⟩
  | 74 => ⟨S1x32768, .f32⟩
  | 75 => ⟨S1024x1, .f32⟩
  | 76 => ⟨S1024x32768, .f32⟩
  | 77 => ⟨S1024x32768, .f32⟩
  | 78 => ⟨S1024x32768, .f32⟩
  | 79 => ⟨S_, .f32⟩
  | 80 => ⟨S1024x32768, .f32⟩
  | 81 => ⟨S1024x32768, .i1⟩
  | 82 => ⟨S1x32768x2, .f32⟩
  | 83 => ⟨S1024x1x2, .f32⟩
  | 84 => ⟨S1024x32768x2, .f32⟩
  | 85 => ⟨S1024x32768x2, .f32⟩
  | 86 => ⟨S1024x32768x2, .f32⟩
  | 87 => ⟨S_, .f32⟩
  | 88 => ⟨S_, .f32⟩
  | 89 => ⟨S1024x32768, .f32⟩
  | 90 => ⟨S1024x32768, .f32⟩
  | 91 => ⟨S1024x32768x2, .f32⟩
  | 92 => ⟨S_, .f32⟩
  | 93 => ⟨S1024x32768, .f32⟩
  | 94 => ⟨S1024x32768, .f32⟩
  | 95 => ⟨S_, .f32⟩
  | 96 => ⟨S_, .f32⟩
  | 97 => ⟨S_, .f32⟩
  | 98 => ⟨S1024x32768, .f32⟩
  | 99 => ⟨S1024x32768, .f32⟩
  | 100 => ⟨S1024x32768, .f32⟩
  | 101 => ⟨S_, .f32⟩
  | 102 => ⟨S_, .f32⟩
  | 103 => ⟨S_, .f32⟩
  | 104 => ⟨S1024x32768, .f32⟩
  | 105 => ⟨S1024x32768, .f32⟩
  | 106 => ⟨S_, .f32⟩
  | 107 => ⟨S1024x32768, .f32⟩
  | 108 => ⟨S1024x32768, .f32⟩
  | 109 => ⟨S1024x32768, .f32⟩
  | 110 => ⟨S1024x32768, .f32⟩
  | 111 => ⟨S1024x32768, .f32⟩
  | 112 => ⟨S1024x32768, .f32⟩
  | 113 => ⟨S1024x32768, .f32⟩
  | 114 => ⟨S1024x32768, .f32⟩
  | 115 => ⟨S_, .f32⟩
  | 116 => ⟨S_, .f32⟩
  | 117 => ⟨S1024x32768, .f32⟩
  | 118 => ⟨S1024x32768, .f32⟩
  | 119 => ⟨S_, .f32⟩
  | 120 => ⟨S32768, .f32⟩
  | 121 => ⟨S32768, .f32⟩
  | 122 => ⟨S1, .f32⟩
  | 123 => ⟨S_, .f32⟩
  | 124 => ⟨S1, .f32⟩
  | 125 => ⟨S_, .f32⟩
  | 126 => ⟨S_, .f32⟩
  | 127 => ⟨S_, .f32⟩
  | _ => ⟨S1024x2, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1, .f32⟩
  | 5 => ⟨S1025, .f32⟩
  | _ => ⟨S1024x2, .f32⟩

abbrev hbmTy (i : Nat) : BufTy := match i / 128 with
  | 0 => hbmTy0_0 i
  | 1 => hbmTy0_1 i
  | _ => ⟨S1024x2, .f32⟩

abbrev bufTy : (tb : Table) → Fin (tcTables nBuf tb) → BufTy
  | .hbm, ⟨i, _⟩ => hbmTy i
  | _, _ => ⟨S1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_call2_v0 : Ref sig .tc := ⟨.hbm, 88, rfl⟩
abbrev main_call2_v1 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_call3_v0 : Ref sig .tc := ⟨.hbm, 116, rfl⟩
abbrev main_call3_v1 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]
-- ==== Proof.KRun.lean ====
/- The run of the idealized kernel, with the result array kept in the postcondition. -/
module

public import proofs.«01_k».proof.Proof.Gen.KernelIdeal.Frame

@[expose] public section

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the kernel program ends with every array of the memory at the contents
    the last segment boundary gives it. -/
theorem run_boundary : θ_run defs (onTc (τ := τ) (main (F := F))) ⟨m, fun _ => 0, ρ⟩
    (fun r => ∀ c : Dev nD, ∀ b ∈ Pipeline.ucRefs τ sig,
      r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The run of the kernel program: the result array ends at what the second region's write-backs leave,
    and every argument array ends as it began. -/
theorem run : θ_run defs (onTc (τ := τ) (main (F := F))) ⟨m, fun _ => 0, ρ⟩ (fun r => ∀ c : Dev nD,
      r.2.mem ((c.tc : Thread nD τ).loc main_v17) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
      ⟨(h c _ (mem_uc main_v17 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩) (run_boundary m ρ)

end Cert.KernelIdeal.Result

end
-- ==== Proof.Alg.lean ====
/- The mathematics on the extended reals: one pair's contribution in the two spellings, and the regrouping of the integral. -/
module

public import Idealize.ShloMosaic.PureOps.Ideal
public import Idealize.ShloMosaic.Lib.IdealHost
public import Idealize.ShloMosaic.Lib.Pointwise

@[expose] public section

noncomputable section

namespace Hawkes

open Idealize.ShloMosaic

/-- The clamp and shift of the intensity, the f32 constant nearest to 1e-6. -/
def eps : EReal := Ideal.ofBits .f32 0x358637BD#32

/-- The f32 constant nearest to 2π. -/
def twoPi : EReal := Ideal.ofBits .f32 0x40C90FDB#32

/-- The exponential turns every sum of extended reals into a product. -/
theorem exp_add (a b : EReal) : Ideal.exp (a + b) = Ideal.exp a * Ideal.exp b := by
  induction a with
  | bot => simp
  | top =>
    induction b with
    | bot => simp
    | top => simp
    | coe y =>
      rw [EReal.top_add_coe, Ideal.exp_top, Ideal.exp_coe, EReal.top_mul_coe_of_pos (Real.exp_pos y)]
  | coe x =>
    induction b with
    | bot => simp
    | top =>
      rw [EReal.coe_add_top, Ideal.exp_top, Ideal.exp_coe, EReal.coe_mul_top_of_pos (Real.exp_pos x)]
    | coe y =>
      rw [← EReal.coe_add, Ideal.exp_coe, Ideal.exp_coe, Ideal.exp_coe, Real.exp_add, EReal.coe_mul]

/-- The exponential is never negative. -/
theorem exp_nonneg (a : EReal) : 0 ≤ Ideal.exp a := by
  induction a with
  | bot => simp
  | top => simp
  | coe x => rw [Ideal.exp_coe]; exact_mod_cast (Real.exp_pos x).le

/-- The square of a difference does not depend on the order. -/
theorem sq_sub_comm (a b : EReal) : (a - b) * (a - b) = (b - a) * (b - a) := by
  induction a <;> induction b <;> try simp
  · rw [← EReal.coe_sub, ← EReal.coe_sub, ← EReal.coe_mul, ← EReal.coe_mul]
    congr 1; ring

/-- The f32 constant 2. -/
theorem ofBits_two : Ideal.ofBits .f32 0x40000000#32 = ((2 : ℝ) : EReal) := by
  simp [Ideal.ofBits, Ideal.ieee, -EReal.coe_mul]; norm_num

/-- The f32 constant -1/2. -/
theorem ofBits_neg_half : Ideal.ofBits .f32 0xBF000000#32 = ((-(1 / 2) : ℝ) : EReal) := by
  simp [Ideal.ofBits, Ideal.ieee, -EReal.coe_mul, -EReal.coe_neg]; norm_num

/-- The f32 constant 512. -/
theorem ofBits_512 : Ideal.ofBits .f32 0x44000000#32 = ((512 : ℝ) : EReal) := by
  simp [Ideal.ofBits, Ideal.ieee, -EReal.coe_mul]; norm_num

/-- The f32 constant 1/512. -/
theorem ofBits_inv_512 : Ideal.ofBits .f32 0x3B000000#32 = ((1 / 512 : ℝ) : EReal) := by
  simp [Ideal.ofBits, Ideal.ieee, -EReal.coe_mul]; norm_num

/-- The f32 constant 64. -/
theorem ofBits_64 : Ideal.ofBits .f32 0x42800000#32 = ((64 : ℝ) : EReal) := by
  simp [Ideal.ofBits, Ideal.ieee, -EReal.coe_mul]; norm_num

/-- The f32 constant 1/64. -/
theorem ofBits_inv_64 : Ideal.ofBits .f32 0x3C800000#32 = ((1 / 64 : ℝ) : EReal) := by
  simp [Ideal.ofBits, Ideal.ieee, -EReal.coe_mul]; norm_num

/-- The constant for 2π is not zero. -/
theorem twoPi_ne_zero : twoPi ≠ 0 := by
  have h : twoPi = ((13176795 / 2097152 : ℝ) : EReal) := by
    unfold twoPi
    simp [Ideal.ofBits, Ideal.ieee, -EReal.coe_mul]; norm_num
  rw [h]
  norm_num

/-- The kernel's factor of the squared distance is the reference's division by twice the variance. -/
theorem div_two_var {σ : EReal} (hσ : σ ≠ 0) (r : EReal) :
    Ideal.div (-r) (Ideal.ofBits .f32 0x40000000#32 * σ * σ)
      = r * Ideal.div (Ideal.ofBits .f32 0xBF000000#32) (σ * σ) := by
  have h2 : ((2 : ℝ) : EReal) ≠ 0 := by norm_num
  rw [ofBits_two, ofBits_neg_half, Ideal.div, if_neg (mul_ne_zero (mul_ne_zero h2 hσ) hσ),
    Ideal.div, if_neg (mul_ne_zero hσ hσ), mul_assoc _ σ σ, EReal.mul_inv, ← EReal.coe_inv,
    EReal.coe_neg, neg_mul, neg_mul, mul_neg]
  norm_num

/-- A quotient is the product with the reciprocal, for the kernel's normalizing factor. -/
theorem div_norm {σ : EReal} (hσ : σ ≠ 0) (x : EReal) :
    Ideal.div x (twoPi * σ * σ) = x * Ideal.div 1 (twoPi * σ * σ) :=
  (Ideal.mul_one_div (mul_ne_zero (mul_ne_zero twoPi_ne_zero hσ) hσ)).symm

/-- The product `α · 1/(2πσ²) · ω` the kernel multiplies every sum with. -/
def scale (α σ ω : EReal) : EReal := α * Ideal.div 1 (twoPi * σ * σ) * ω

/-- The kernel's factor `-1/(2σ²)` of a squared distance. -/
def invVar (σ : EReal) : EReal := Ideal.div (Ideal.ofBits .f32 0xBF000000#32) (σ * σ)

/-- The excitation at squared distance `r` and elapsed time `s`, as the reference spells it: nothing unless the
    elapsed time is positive, else the spatial density times the temporal one. -/
def excitation (α σ ω r s : EReal) : EReal :=
  if 0 < s then
    α * Ideal.div (Ideal.exp (Ideal.div (-r) (Ideal.ofBits .f32 0x40000000#32 * σ * σ))) (twoPi * σ * σ)
      * (ω * Ideal.exp (-ω * s))
  else 0

/-- The spatial exponential of a squared distance. -/
def spatial (σ r : EReal) : EReal := Ideal.exp (r * invVar σ)

/-- The temporal exponential, nothing unless the elapsed time is positive. -/
def temporal (ω s : EReal) : EReal := if 0 < s then Ideal.exp (-ω * s) else 0

/-- The spatial exponential is not negative. -/
theorem spatial_nonneg (σ r : EReal) : 0 ≤ spatial σ r := exp_nonneg _

/-- The temporal exponential is not negative. -/
theorem temporal_nonneg (ω s : EReal) : 0 ≤ temporal ω s := by
  unfold temporal; split
  · exact exp_nonneg _
  · exact le_rfl

/-- The excitation is the spatial exponential times the temporal one times the scale. -/
theorem excitation_eq {σ : EReal} (hσ : σ ≠ 0) (α ω r s : EReal) :
    excitation α σ ω r s = spatial σ r * temporal ω s * scale α σ ω := by
  unfold excitation spatial temporal scale invVar
  split
  · rw [div_norm hσ, div_two_var hσ]; ac_rfl
  · simp

/-- The kernel's single exponential of both exponents is the product of the two exponentials. -/
theorem exp_joint (σ ω r s : EReal) :
    (if 0 < s then Ideal.exp (r * invVar σ - ω * s) else 0) = spatial σ r * temporal ω s := by
  unfold spatial temporal
  split
  · rw [sub_eq_add_neg, exp_add, EReal.neg_mul]
  · simp

/-- A factor comes out of a finite sum of nonnegative terms. -/
theorem sum_mul_nonneg {ι : Type*} (S : Finset ι) (f : ι → EReal) (hf : ∀ i, 0 ≤ f i) (c : EReal) :
    (∑ i ∈ S, f i) * c = ∑ i ∈ S, f i * c := by
  classical
  induction S using Finset.induction_on with
  | empty => simp
  | insert a T ha ih =>
    rw [Finset.sum_insert ha, Finset.sum_insert ha,
      EReal.right_distrib_of_nonneg (hf a) (Finset.sum_nonneg fun i _ => hf i), ih]

/-- The product of two finite sums of nonnegative terms is the sum of all products. -/
theorem sum_mul_sum_nonneg {ι κ : Type*} (S : Finset ι) (T : Finset κ) (f : ι → EReal) (g : κ → EReal)
    (hf : ∀ i, 0 ≤ f i) (hg : ∀ j, 0 ≤ g j) :
    (∑ i ∈ S, f i) * (∑ j ∈ T, g j) = ∑ i ∈ S, ∑ j ∈ T, f i * g j := by
  rw [sum_mul_nonneg S f hf]
  refine Finset.sum_congr rfl fun i _ => ?_
  rw [mul_comm, sum_mul_nonneg T g hg]
  exact Finset.sum_congr rfl fun j _ => mul_comm _ _

/-- The excited part of an event's intensity: the kernel's scaled sum is the reference's sum of excitations. -/
theorem excited_sum {σ : EReal} (hσ : σ ≠ 0) (α ω : EReal) {ι : Type*} [Fintype ι] (r s : ι → EReal) :
    (∑ j, if 0 < s j then Ideal.exp (r j * invVar σ - ω * s j) else 0) * scale α σ ω
      = ∑ j, excitation α σ ω (r j) (s j) := by
  rw [sum_mul_nonneg]
  · exact Finset.sum_congr rfl fun j _ => by rw [exp_joint, excitation_eq hσ]
  · intro j; rw [exp_joint]; exact mul_nonneg (spatial_nonneg _ _) (temporal_nonneg _ _)

/-- The base intensity summed over time steps and cells: the kernel walks rows of sixteen features and keeps the
    first of each sixteen. -/
theorem base_sum (B : Fin 64 → Fin 512 → EReal) :
    ∑ i : Fin 4, ∑ r : Fin 256, ∑ g : Fin 512,
        (if r.val % 16 = 0 then B ⟨i.val * 16 + r.val / 16, by omega⟩ g else 0)
      = ∑ t : Fin 64, ∑ g : Fin 512, B t g := by
  rw [Fin.sum_univ_tiles 4 16 rfl fun t => ∑ g : Fin 512, B t g]
  refine Finset.sum_congr rfl fun i _ => ?_
  rw [Fin.sum_univ_tiles 16 16 rfl fun r : Fin 256 => ∑ g : Fin 512,
    (if r.val % 16 = 0 then B ⟨i.val * 16 + r.val / 16, by omega⟩ g else 0)]
  refine Finset.sum_congr rfl fun j _ => ?_
  rw [Finset.sum_eq_single (0 : Fin 16)]
  · refine Finset.sum_congr rfl fun g _ => ?_
    rw [if_pos (by simp)]
    congr 1
    apply Fin.ext
    simp
  · intro k _ hk
    have hk' : k.val ≠ 0 := fun h => hk (Fin.ext h)
    refine Finset.sum_eq_zero fun g _ => if_neg ?_
    show ¬ (j.val * 16 + k.val) % 16 = 0
    omega
  · intro h; exact absurd (Finset.mem_univ _) h

/-- The excitation summed over events, time steps and cells: for one event the sum over cells and the sum over
    time steps are taken apart, and the events are taken in four blocks. -/
theorem cross_sum (s : Fin 1024 → Fin 512 → EReal) (w : Fin 1024 → Fin 64 → EReal)
    (hs : ∀ n g, 0 ≤ s n g) (hw : ∀ n t, 0 ≤ w n t) (C : EReal) :
    ∑ i : Fin 4, (∑ n : Fin 256, (∑ g, s ⟨i.val * 256 + n.val, by omega⟩ g)
          * (∑ t, w ⟨i.val * 256 + n.val, by omega⟩ t)) * C
      = ∑ t : Fin 64, ∑ g : Fin 512, ∑ n : Fin 1024, s n g * w n t * C := by
  have h1 : ∀ n : Fin 1024, (∑ g, s n g) * (∑ t, w n t) * C = ∑ t : Fin 64, ∑ g : Fin 512, s n g * w n t * C := by
    intro n
    rw [sum_mul_sum_nonneg _ _ _ _ (hs n) (hw n), Finset.sum_comm,
      sum_mul_nonneg _ _ (fun t => Finset.sum_nonneg fun g _ => mul_nonneg (hs n g) (hw n t))]
    refine Finset.sum_congr rfl fun t _ => ?_
    exact sum_mul_nonneg _ _ (fun g => mul_nonneg (hs n g) (hw n t)) _
  calc _ = ∑ n : Fin 1024, (∑ g, s n g) * (∑ t, w n t) * C := by
        rw [Fin.sum_univ_tiles 4 256 rfl fun n : Fin 1024 => (∑ g, s n g) * (∑ t, w n t) * C]
        refine Finset.sum_congr rfl fun i _ => ?_
        exact sum_mul_nonneg _ _ (fun n => mul_nonneg (Finset.sum_nonneg fun g _ => hs _ g)
          (Finset.sum_nonneg fun t _ => hw _ t)) _
    _ = _ := by
        rw [Finset.sum_congr rfl fun n _ => h1 n, Finset.sum_comm]
        exact Finset.sum_congr rfl fun t _ => Finset.sum_comm

/-- A sum over the flattened grid is the sum over time steps and cells. -/
theorem grid_sum (f : Fin 64 → Fin 512 → EReal) :
    ∑ q : Fin 32768, f ⟨q.val / 512, by omega⟩ ⟨q.val % 512, by omega⟩ = ∑ t, ∑ g, f t g := by
  rw [Fin.sum_univ_tiles 64 512 rfl fun q : Fin 32768 => f ⟨q.val / 512, by omega⟩ ⟨q.val % 512, by omega⟩]
  refine Finset.sum_congr rfl fun t _ => Finset.sum_congr rfl fun g _ => ?_
  congr 1 <;> apply Fin.ext
  · show (t.val * 512 + g.val) / 512 = t.val
    omega
  · show (t.val * 512 + g.val) % 512 = g.val
    omega

/-- The integral before its cell size: the four blocks' parts add up to the reference's sum over the flattened grid. -/
theorem integral_sum (B : Fin 64 → Fin 512 → EReal) (s : Fin 1024 → Fin 512 → EReal) (w : Fin 1024 → Fin 64 → EReal)
    (hs : ∀ n g, 0 ≤ s n g) (hw : ∀ n t, 0 ≤ w n t) (C : EReal) :
    ∑ i : Fin 4, ((∑ r : Fin 256, ∑ g : Fin 512,
          (if r.val % 16 = 0 then B ⟨i.val * 16 + r.val / 16, by omega⟩ g else 0))
        + (∑ n : Fin 256, (∑ g, s ⟨i.val * 256 + n.val, by omega⟩ g)
          * (∑ t, w ⟨i.val * 256 + n.val, by omega⟩ t)) * C)
      = ∑ q : Fin 32768, (B ⟨q.val / 512, by omega⟩ ⟨q.val % 512, by omega⟩
        + ∑ n : Fin 1024, s n ⟨q.val % 512, by omega⟩ * w n ⟨q.val / 512, by omega⟩ * C) := by
  rw [Finset.sum_add_distrib, base_sum, cross_sum s w hs hw C,
    grid_sum fun t g => B t g + ∑ n : Fin 1024, s n g * w n t * C, ← Finset.sum_add_distrib]
  exact Finset.sum_congr rfl fun t _ => Finset.sum_add_distrib.symm

/-- The cell size: the product with 1/512 and the time step is the product with the time step over 512. -/
theorem cell_size (x d : EReal) :
    x * Ideal.ofBits .f32 0x3B000000#32 * d = x * Ideal.div d (Ideal.ofBits .f32 0x44000000#32) := by
  rw [ofBits_512, Ideal.div_coe (by norm_num), ofBits_inv_512, mul_assoc, mul_comm d]

end Hawkes

end
-- ==== Proof.Spec.lean ====
/- The log-likelihood's formulas over the argument arrays: the event intensities and the integral. -/
module

public import proofs.«01_k».proof.Proof.Alg

@[expose] public section

noncomputable section

namespace Hawkes

open Idealize.ShloMosaic

/-- The squared distance of two points of the plane. -/
def dist2 (a b : Fin 2 → EReal) : EReal := ∑ d, (a d - b d) * (a d - b d)

/-- The log intensity at event `n`: clamped covariate part plus all excitations of the past, shifted. -/
def logSpec (x : FVec Ideal ⟨2, ![1024, 2]⟩ .f32) (t : FVec Ideal ⟨1, ![1024]⟩ .f32)
    (px : FVec Ideal ⟨3, ![1024, 2048, 2]⟩ .f32) (pt : FVec Ideal ⟨2, ![1024, 2048]⟩ .f32)
    (cov : FVec Ideal ⟨2, ![1024, 16]⟩ .f32) (β : FVec Ideal ⟨1, ![16]⟩ .f32) (α σ ω : EReal) (n : Fin 1024) : EReal :=
  Ideal.log (max (∑ d, cov (ix2 n d) * β (ix1 d)) eps
    + (∑ j, excitation α σ ω (dist2 (fun d => x (ix2 n d)) fun d => px (ix3 n j d)) (t (ix1 n) - pt (ix2 n j)))
    + eps)

/-- The clamped base intensity at time step `s` and cell `g`. -/
def baseSpec (z : FVec Ideal ⟨3, ![64, 512, 16]⟩ .f32) (β : FVec Ideal ⟨1, ![16]⟩ .f32) (s : Fin 64) (g : Fin 512) : EReal :=
  max (∑ d, z (ix3 s g d) * β (ix1 d)) eps

/-- The integral: base plus all excitations at every node of the flattened grid, times cell size and time step. -/
def intSpec (x : FVec Ideal ⟨2, ![1024, 2]⟩ .f32) (t : FVec Ideal ⟨1, ![1024]⟩ .f32)
    (z : FVec Ideal ⟨3, ![64, 512, 16]⟩ .f32) (xg : FVec Ideal ⟨2, ![512, 2]⟩ .f32) (tg : FVec Ideal ⟨1, ![64]⟩ .f32)
    (β : FVec Ideal ⟨1, ![16]⟩ .f32) (α σ ω : EReal) : EReal :=
  (∑ q : Fin 32768, (baseSpec z β ⟨q.val / 512, by omega⟩ ⟨q.val % 512, by omega⟩
      + ∑ n : Fin 1024, excitation α σ ω
          (dist2 (fun d => xg (ix2 ⟨q.val % 512, by omega⟩ d)) fun d => x (ix2 n d))
          (tg (ix1 ⟨q.val / 512, by omega⟩) - t (ix1 n))))
    * Ideal.ofBits .f32 0x3B000000#32 * (tg (ix1 1) - tg (ix1 0))

end Hawkes

end
-- ==== Proof.Entry.lean ====
/- The arrays the two kernels read, as functions of the arguments. -/
module

public import proofs.«01_k».proof.Proof.Gen.KernelIdeal.Frame
public import Idealize.ShloMosaic.Lib.Claim
public import Idealize.ShloMosaic.Lib.StableHlo.RunRead
public import Idealize.ShloMosaic.Lib.Pointwise
public import Idealize.ShloMosaic.Lib.Pipeline.ValueKit
public import proofs.«01_k».proof.Proof.Spec

@[expose] public section

set_option maxRecDepth 16384

noncomputable section

namespace Cert.KernelIdeal.Result

open Idealize.ShloMosaic.StableHlo Idealize.ShloMosaic Cert.KernelIdeal Cert.KernelIdeal.Gen Idealize.ShloMosaic.TcCoe Hawkes

variable (m : (ℓ : Loc nD τ sig) → Buf (Elt Ideal) ℓ) (ρ : Dev nD → PrngReg)

/-- The past positions, the coordinate before the event's past. -/
theorem entry_px (c : Dev nD) (n : Fin 1024) (d : Fin 2) (j : Fin 2048) :
    (V1 m ρ c main_v0 : FVec Ideal S1024x2x2048 .f32) (ix3 n d j)
      = (m ((c : Thread nD τ).loc main_arg2) : FVec Ideal S1024x2048x2 .f32) (ix3 n j d) := by
  unfold V1 W1
  after_reads_simp
  pointwise

/-- The cells' covariates, one row per time and covariate. -/
theorem entry_zn (c : Dev nD) (r : Fin 1024) (g : Fin 512) :
    (V1 m ρ c main_v2 : FVec Ideal S1024x512 .f32) (ix2 r g)
      = (m ((c : Thread nD τ).loc main_arg5) : FVec Ideal S64x512x16 .f32) (ix3 ⟨r.val / 16, by omega⟩ g ⟨r.val % 16, by omega⟩) := by
  unfold V1 W1
  after_reads_simp
  pointwise

/-- The cells' positions, the coordinate first. -/
theorem entry_xg (c : Dev nD) (d : Fin 2) (g : Fin 512) :
    (V1 m ρ c main_v3 : FVec Ideal S2x512 .f32) (ix2 d g)
      = (m ((c : Thread nD τ).loc main_arg6) : FVec Ideal S512x2 .f32) (ix2 g d) := by
  unfold V1 W1
  after_reads_simp
  pointwise

/-- An event's first coordinate in the packed array. -/
theorem entry_x0 (c : Dev nD) (n : Fin 1024) :
    (V1 m ρ c main_v9 : FVec Ideal S1024x20 .f32) (ix2 n 0)
      = (m ((c : Thread nD τ).loc main_arg0) : FVec Ideal S1024x2 .f32) (ix2 n 0) := by
  unfold V1 W1
  after_reads_simp
  pointwise

/-- An event's second coordinate in the packed array. -/
theorem entry_x1 (c : Dev nD) (n : Fin 1024) :
    (V1 m ρ c main_v9 : FVec Ideal S1024x20 .f32) (ix2 n 1)
      = (m ((c : Thread nD τ).loc main_arg0) : FVec Ideal S1024x2 .f32) (ix2 n 1) := by
  unfold V1 W1
  after_reads_simp
  pointwise

/-- An event's time in the packed array. -/
theorem entry_t (c : Dev nD) (n : Fin 1024) :
    (V1 m ρ c main_v9 : FVec Ideal S1024x20 .f32) (ix2 n 2)
      = (m ((c : Thread nD τ).loc main_arg1) : FVec Ideal S1024 .f32) (ix1 n) := by
  unfold V1 W1
  after_reads_simp
  pointwise
  after_reads_simp
  pointwise

/-- An event's covariates in the packed array. -/
theorem entry_cov (c : Dev nD) (n : Fin 1024) (d : Fin 16) :
    (V1 m ρ c main_v9 : FVec Ideal S1024x20 .f32) (ix2 n ⟨3 + d.val, by omega⟩)
      = (m ((c : Thread nD τ).loc main_arg4) : FVec Ideal S1024x16 .f32) (ix2 n d) := by
  unfold V1 W1
  after_reads_simp
  pointwise
  after_reads_simp
  pointwise
  refine (dif_neg (by omega)).trans ((dif_neg (by omega)).trans ((dif_pos (by omega)).trans ?_))
  exact congrArg _ (congrArg (ix2 n) (Fin.ext (show 3 + d.val - 2 - 1 = d.val by omega)))

/-- The last column of the packed array: the coefficients, over and over. -/
theorem entry_beta (c : Dev nD) (n : Fin 1024) :
    (V1 m ρ c main_v9 : FVec Ideal S1024x20 .f32) (ix2 n 19)
      = (m ((c : Thread nD τ).loc main_arg8) : FVec Ideal S16 .f32) (ix1 ⟨n.val % 16, by omega⟩) := by
  unfold V1 W1
  after_reads_simp
  pointwise
  after_reads_simp
  pointwise

/-- The first scalar. -/
theorem entry_alpha (c : Dev nD) :
    (V1 m ρ c main_v14 : FVec Ideal S1x3 .f32) (ix2 0 0)
      = (m ((c : Thread nD τ).loc main_arg9) : FVec Ideal S_ .f32) (ix0) := by
  unfold V1 W1
  after_reads_simp
  pointwise
  after_reads_simp
  pointwise

/-- The second scalar. -/
theorem entry_sigma (c : Dev nD) :
    (V1 m ρ c main_v14 : FVec Ideal S1x3 .f32) (ix2 0 1)
      = (m ((c : Thread nD τ).loc main_arg10) : FVec Ideal S_ .f32) (ix0) := by
  unfold V1 W1
  after_reads_simp
  pointwise
  after_reads_simp
  pointwise

/-- The third scalar. -/
theorem entry_omega (c : Dev nD) :
    (V1 m ρ c main_v14 : FVec Ideal S1x3 .f32) (ix2 0 2)
      = (m ((c : Thread nD τ).loc main_arg11) : FVec Ideal S_ .f32) (ix0) := by
  unfold V1 W1
  after_reads_simp
  pointwise
  after_reads_simp
  pointwise

/-- The past times reach the first kernel as they are. -/
theorem entry_pt (c : Dev nD) : V1 m ρ c main_arg3 = m ((c : Thread nD τ).loc main_arg3) :=
  W1_args m ρ c main_arg3 (by decide)

/-- The second kernel reads the log row the first one left. -/
theorem entry_log (c : Dev nD) : V3 m ρ c main_v15_0 = (dat0 (V1 m ρ) c).arrAt 6 cfg0.N :=
  (W3_of m ρ c main_v15_0 (by decide)).trans (W2_arr m ρ c 6)

/-- The second kernel reads the parts the first one left. -/
theorem entry_part (c : Dev nD) : V3 m ρ c main_v15_1 = (dat0 (V1 m ρ) c).arrAt 7 cfg0.N :=
  (W3_of m ρ c main_v15_1 (by decide)).trans (W2_arr m ρ c 7)

/-- The second kernel reads the time grid. -/
theorem entry_tg (c : Dev nD) (s : Fin 64) : (V3 m ρ c main_v16 : FVec Ideal S1x64 .f32) (ix2 0 s)
    = (m ((c : Thread nD τ).loc main_arg7) : FVec Ideal S64 .f32) (ix1 s) := by
  have h : W2 m ρ c (Proc.devRef .tc main_arg7) = m ((c : Thread nD τ).loc main_arg7) :=
    (W2_of_ne m ρ c main_arg7 (by decide)).trans (W1_args m ρ c main_arg7 (by decide))
  rw [← h]
  unfold V3 W3
  generalize W2 m ρ = W
  after_reads_simp
  pointwise

end Cert.KernelIdeal.Result

end
-- ==== Proof.Payload.lean ====
/- What the two kernel bodies store, entry by entry, as plain formulas over the loaded blocks. -/
module

public import proofs.«01_k».proof.Proof.Gen.KernelIdeal.Skeleton
public import proofs.«01_k».proof.Proof.Gen.KernelIdeal
public import proofs.«01_k».proof.Proof.Spec
public import Idealize.ShloMosaic.Lib.Pipeline.ValueKit
public import Idealize.ShloMosaic.Lib.Pointwise

@[expose] public section

set_option maxRecDepth 16384

noncomputable section

namespace Cert.KernelIdeal.Result

open Idealize.ShloMosaic Cert.KernelIdeal Cert.KernelIdeal.Gen Hawkes

/-- The log block at an event: the logarithm of the clamped covariate product plus the scaled sum of the joint
    exponentials, shifted. -/
theorem log_block_at (v0 v2 v4 : FVec Ideal S1x1 .f32) (v11 v13 v15 : FVec Ideal S256x1 .f32)
    (v17 v21 : FVec Ideal S256x1x2048 .f32) (v25 : FVec Ideal S256x2048 .f32) (v47 : FVec Ideal S256x16 .f32)
    (v49 : FVec Ideal S16x1 .f32) (n : Fin 256) :
    k0_pay12 (F := Ideal) (k0_pay2 v0) (k0_pay4 v4) (k0_pay6 v2) (k0_pay10 v15 v25)
        (k0_pay11 v2 v4 v11 v13 v15 v17 v21 v25) v47 v49 (ix2 0 n)
      = Ideal.log (max (∑ d, v47 (ix2 n d) * v49 (ix2 d 0)) eps
          + (∑ j, if 0 < v15 (ix2 n 0) - v25 (ix2 n j) then
                Ideal.exp (((v11 (ix2 n 0) - v17 (ix3 n 0 j)) * (v11 (ix2 n 0) - v17 (ix3 n 0 j))
                    + (v13 (ix2 n 0) - v21 (ix3 n 0 j)) * (v13 (ix2 n 0) - v21 (ix3 n 0 j))) * invVar (v2 (ix2 0 0))
                  - v4 (ix2 0 0) * (v15 (ix2 n 0) - v25 (ix2 n j)))
              else 0) * scale (v0 (ix2 0 0)) (v2 (ix2 0 0)) (v4 (ix2 0 0))
          + eps) := by
  pointwise [k0_pay12, k0_pay2, k0_pay3, k0_pay4, k0_pay5, k0_pay6, k0_pay7, k0_pay8, k0_pay9, k0_pay10, k0_pay11,
    eps, scale, invVar, twoPi]

/-- An array of rows plus itself rolled up by `k` rows, at a row that does not wrap around. -/
theorem add_roll_at (a k : Nat) (v : FVec Ideal S256x512 .f32) (ha) (hb) (hc) (r : Fin 256) (g : Fin 512)
    (hak : a + k = 256) (h : r.val + k < 256) :
    addf v (concatenate S256x512 0 [⟨⟨2, ![a, 512]⟩, extractStridedSlice ⟨2, ![a, 512]⟩ ![k, 0] v ha⟩,
        ⟨⟨2, ![k, 512]⟩, extractStridedSlice ⟨2, ![k, 512]⟩ ![0, 0] v hb⟩] hc) (ix2 r g)
      = v (ix2 r g) + v (ix2 ⟨r.val + k, h⟩ g) := by
  have h' : r.val < a := by omega
  pointwise
  rw [dif_pos h']
  congr 2
  simp [Shape.Idx.norm, Nat.add_comm, Fin.ext_iff]

/-- If an array holds at each row the sum of `k` consecutive rows of `v`, then it plus itself rolled up by `k` rows
    holds the sum of twice as many. -/
theorem add_roll_sum (a k : Nat) (v w : FVec Ideal S256x512 .f32) (ha) (hb) (hc) (g : Fin 512) (hak : a + k = 256) (hk : 0 < k)
    (hw : ∀ (q : Fin 256) (h : q.val + k ≤ 256), w (ix2 q g) = ∑ j : Fin k, v (ix2 ⟨q.val + j.val, by omega⟩ g))
    (r : Fin 256) (h : r.val + (k + k) ≤ 256) :
    addf w (concatenate S256x512 0 [⟨⟨2, ![a, 512]⟩, extractStridedSlice ⟨2, ![a, 512]⟩ ![k, 0] w ha⟩,
        ⟨⟨2, ![k, 512]⟩, extractStridedSlice ⟨2, ![k, 512]⟩ ![0, 0] w hb⟩] hc) (ix2 r g)
      = ∑ j : Fin (k + k), v (ix2 ⟨r.val + j.val, by omega⟩ g) := by
  rw [add_roll_at a k w ha hb hc r g hak (by omega), hw r (by omega), hw ⟨r.val + k, by omega⟩ (by simp only; omega),
    Fin.sum_univ_add]
  simp only [Fin.val_castAdd, Fin.val_natAdd, Nat.add_assoc]

/-- The feature sum at the first row of a time step: the four rolls add up the sixteen products of its features. -/
theorem feature_sum_at (v98 : FVec Ideal S256x512 .f32) (v100 : FVec Ideal S256x1 .f32) (r : Fin 256) (g : Fin 512)
    (hr : r.val % 16 = 0) :
    k0_pay15 (F := Ideal) v98 v100 (ix2 r g)
      = ∑ k : Fin 16, v98 (ix2 ⟨r.val + k.val, by omega⟩ g) * v100 (ix2 ⟨r.val + k.val, by omega⟩ 0) := by
  have hlt := r.isLt
  unfold k0_pay15
  generalize hv : (mulf (shapeCast S256x512 v98 shapeCasts_S256x512_S256x512)
    (broadcastTo S256x512 (shapeCast S256x1 v100 shapeCasts_S256x1_S256x1) broadcasts_S256x1_S256x512) : FVec Ideal S256x512 .f32) = v
  have hat : ∀ r : Fin 256, v (ix2 r g) = v98 (ix2 r g) * v100 (ix2 r 0) := fun r => by
    subst hv; pointwise
  refine (add_roll_sum 248 8 v _ _ _ _ g rfl (by decide)
    (add_roll_sum 252 4 v _ _ _ _ g rfl (by decide)
      (add_roll_sum 254 2 v _ _ _ _ g rfl (by decide)
        (add_roll_sum 255 1 v _ _ _ _ g rfl (by decide) fun q h => ?_))) r (by omega)).trans ?_
  · simp
  · exact Finset.sum_congr rfl fun k _ => hat _

/-- The test on a block row's number, in machine words, asks whether sixteen divides it. -/
theorem row_mask (x : Fin 256) :
    IntOp.cmpi CmpIPredicate.eq
      (Scalar.select
        (IntOp.andi
          (IntOp.xori
            (IntOp.cmpi CmpIPredicate.slt
              (IntOp.remsi ArithUnit.vector (BitVec.ofNat 32 x.val)
                (Scalar.select (Scalar.cmpi CmpIPredicate.eq 16#32 0#32) 1#32 16#32))
              0#32)
            (Scalar.cmpi CmpIPredicate.slt 16#32 0#32))
          (IntOp.cmpi CmpIPredicate.ne
            (IntOp.remsi ArithUnit.vector (BitVec.ofNat 32 x.val)
              (Scalar.select (Scalar.cmpi CmpIPredicate.eq 16#32 0#32) 1#32 16#32))
            0#32))
        (IntOp.addi
          (IntOp.remsi ArithUnit.vector (BitVec.ofNat 32 x.val)
            (Scalar.select (Scalar.cmpi CmpIPredicate.eq 16#32 0#32) 1#32 16#32))
          16#32)
        (IntOp.remsi ArithUnit.vector (BitVec.ofNat 32 x.val)
          (Scalar.select (Scalar.cmpi CmpIPredicate.eq 16#32 0#32) 1#32 16#32)))
      0#32 = if x.val % 16 = 0 then 1#1 else 0#1 := by
  revert x
  decide +kernel

/-- The kernel's time grid, step number times 1/64, at a step. -/
theorem grid_word (s : Fin 64) :
    FloatOps.sitofp (F := Ideal) FTy.f32 (BitVec.ofNat 32 s.val) = ((s.val : ℝ) : EReal) := by
  show (((BitVec.ofNat 32 s.val).toInt : ℝ) : EReal) = _
  rw [(by decide +kernel : ∀ s : Fin 64, (BitVec.ofNat 32 s.val).toInt = (s.val : ℤ)) s]
  rfl

/-- The part of a block: the base sum over its time steps plus the scaled sum over its events. -/
theorem part_block_at (v0 v2 v4 : FVec Ideal S1x1 .f32) (v11 v13 v15 : FVec Ideal S256x1 .f32)
    (v60 v65 : FVec Ideal S1x512 .f32) (v98 : FVec Ideal S256x512 .f32) (v100 : FVec Ideal S256x1 .f32) :
    k0_pay1 (F := Ideal) (k0_pay2 v0) (k0_pay4 v4) (k0_pay6 v2)
        (k0_pay14 (k0_pay4 v4) (k0_pay9 v15) (k0_pay13 (k0_pay5 v2) (k0_pay7 v11) (k0_pay8 v13) v60 v65))
        (k0_pay15 v98 v100) (Scalar.select (Scalar.cmpi .eq 16#32 0#32) 1#32 16#32) k0_pay16 (ix3 0 0 0)
      = (∑ r : Fin 256, ∑ g : Fin 512,
          if h : r.val % 16 = 0 then
            max (∑ k : Fin 16, v98 (ix2 ⟨r.val + k.val, by omega⟩ g) * v100 (ix2 ⟨r.val + k.val, by omega⟩ 0)) eps
          else 0)
        + (∑ n : Fin 256,
            (∑ g, spatial (v2 (ix2 0 0))
              ((v11 (ix2 n 0) - v60 (ix2 0 g)) * (v11 (ix2 n 0) - v60 (ix2 0 g))
                + (v13 (ix2 n 0) - v65 (ix2 0 g)) * (v13 (ix2 n 0) - v65 (ix2 0 g))))
            * (∑ s : Fin 64, temporal (v4 (ix2 0 0)) (((s.val : ℝ) : EReal) * Ideal.ofBits .f32 0x3C800000#32 - v15 (ix2 n 0))))
          * scale (v0 (ix2 0 0)) (v2 (ix2 0 0)) (v4 (ix2 0 0)) := by
  rw [show Scalar.select (Scalar.cmpi .eq 16#32 0#32) 1#32 16#32 = 16#32 by decide]
  generalize hf : k0_pay15 (F := Ideal) v98 v100 = f
  pointwise [k0_pay1, k0_pay2, k0_pay3, k0_pay4, k0_pay5, k0_pay6, k0_pay7, k0_pay8, k0_pay9, k0_pay13, k0_pay14, k0_pay16,
    scale, twoPi]
  simp only [row_mask, grid_word, zero_sub]
  congr 1
  refine Finset.sum_congr rfl fun r _ => Finset.sum_congr rfl fun g _ => ?_
  split
  · rename_i h
    rw [← hf, feature_sum_at v98 v100 r g h]
    rfl
  · rfl

/-- The second kernel's integral entry: the sum of the parts times the time step over 512. -/
theorem total_at (v0 v2 : FVec Ideal S1x1 .f32) (v5 : FVec Ideal S4x1x1 .f32) :
    k1_pay2 (F := Ideal) v0 v2 v5 (ix1 0)
      = (∑ i, v5 (ix3 i 0 0)) * Ideal.div (v0 (ix2 0 0) - v2 (ix2 0 0)) (Ideal.ofBits .f32 0x44000000#32) := by
  pointwise [k1_pay2]

/-- The second kernel's copy of the log row. -/
theorem log_copy_at (v9 : FVec Ideal S1x1024 .f32) (n : Fin 1024) :
    k1_pay1 (F := Ideal) v9 (ix1 n) = v9 (ix2 0 n) := by
  pointwise [k1_pay1]

end Cert.KernelIdeal.Result

end
-- ==== Proof.Region0.lean ====
/- What the first kernel leaves in its two result arrays, as formulas over the six arrays it reads. -/
module

public import proofs.«01_k».proof.Proof.Gen.KernelIdeal.Frame
public import proofs.«01_k».proof.Proof.Payload
public import Idealize.ShloMosaic.Lib.Claim

@[expose] public section

set_option maxRecDepth 16384

noncomputable section

namespace Cert.KernelIdeal.Result

open Idealize.ShloMosaic Cert.KernelIdeal Cert.KernelIdeal.Gen Idealize.ShloMosaic.TcCoe Hawkes

/-- The log row's entry `n` over the packed event array, the transposed past positions, the past times and the
    three scalars. -/
def logOf (park : FVec Ideal S1024x20 .f32) (px : FVec Ideal S1024x2x2048 .f32) (pt : FVec Ideal S1024x2048 .f32)
    (scal : FVec Ideal S1x3 .f32) (n : Fin 1024) : EReal :=
  Ideal.log (max (∑ d : Fin 16, park (ix2 n ⟨3 + d.val, by omega⟩) * park (ix2 ⟨n.val / 256 * 256 + d.val, by omega⟩ 19)) eps
    + (∑ j, if 0 < park (ix2 n 2) - pt (ix2 n j) then
          Ideal.exp (((park (ix2 n 0) - px (ix3 n 0 j)) * (park (ix2 n 0) - px (ix3 n 0 j))
              + (park (ix2 n 1) - px (ix3 n 1 j)) * (park (ix2 n 1) - px (ix3 n 1 j))) * invVar (scal (ix2 0 1))
            - scal (ix2 0 2) * (park (ix2 n 2) - pt (ix2 n j)))
        else 0) * scale (scal (ix2 0 0)) (scal (ix2 0 1)) (scal (ix2 0 2))
    + eps)

/-- The part of block `i` over the packed event array, the transposed grid covariates, the transposed cells and the
    three scalars. -/
def partOf (park : FVec Ideal S1024x20 .f32) (zn : FVec Ideal S1024x512 .f32) (xg : FVec Ideal S2x512 .f32)
    (scal : FVec Ideal S1x3 .f32) (i : Fin 4) : EReal :=
  (∑ r : Fin 256, ∑ g : Fin 512,
      if h : r.val % 16 = 0 then
        max (∑ k : Fin 16, zn (ix2 ⟨i.val * 256 + (r.val + k.val), by omega⟩ g)
          * park (ix2 ⟨i.val * 256 + (r.val + k.val), by omega⟩ 19)) eps
      else 0)
    + (∑ n : Fin 256,
        (∑ g, spatial (scal (ix2 0 1))
          ((park (ix2 ⟨i.val * 256 + n.val, by omega⟩ 0) - xg (ix2 0 g)) * (park (ix2 ⟨i.val * 256 + n.val, by omega⟩ 0) - xg (ix2 0 g))
            + (park (ix2 ⟨i.val * 256 + n.val, by omega⟩ 1) - xg (ix2 1 g)) * (park (ix2 ⟨i.val * 256 + n.val, by omega⟩ 1) - xg (ix2 1 g))))
        * (∑ s : Fin 64, temporal (scal (ix2 0 2))
            (((s.val : ℝ) : EReal) * Ideal.ofBits .f32 0x3C800000#32 - park (ix2 ⟨i.val * 256 + n.val, by omega⟩ 2))))
      * scale (scal (ix2 0 0)) (scal (ix2 0 1)) (scal (ix2 0 2))

variable (V : (c : Dev nD) → (b : Ref sig .tc) → Buf (Elt Ideal) ((c : Thread nD τ).loc b))

/-- The blocks of a grid point: the event, past and covariate arrays move with the point, the cells and scalars stay. -/
theorem block_index : ∀ t : Fin grid0.N, win0_0.index t = ![t.val, 0] ∧ win0_1.index t = ![t.val, 0, 0]
    ∧ win0_2.index t = ![t.val, 0] ∧ win0_3.index t = ![t.val, 0] ∧ win0_4.index t = ![0, 0] ∧ win0_5.index t = ![0, 0]
    ∧ win0_6.index t = ![0, t.val] ∧ win0_7.index t = ![t.val, 0, 0] := by decide +kernel

/-- The log row as an array: the formula at the events, zero in the tail no block covers. -/
def logRow (park : FVec Ideal S1024x20 .f32) (px : FVec Ideal S1024x2x2048 .f32) (pt : FVec Ideal S1024x2048 .f32)
    (scal : FVec Ideal S1x3 .f32) : FVec Ideal S1x1152 .f32 :=
  fun i => if h : (i 1).val < 1024 then logOf park px pt scal ⟨(i 1).val, h⟩ else (0 : EReal)

/-- The array of parts after the first kernel. -/
theorem part_arr (c : Dev nD) : (dat0 V c).arrAt 7 cfg0.N
    = (fun i : S4x1x1.Idx => partOf (V c main_v9) (V c main_v2) (V c main_v3) (V c main_v14) (i 0)) := by
  refine (dat0 V c).arrAt_eq_of_covers 7 _ (by decide +kernel) fun t _ y => ?_
  blk_simp
  rw [after0_7]
  frame_out
  idx_vars y
  obtain rfl : y0 = 0 := Subsingleton.elim _ _
  obtain rfl : y1 = 0 := Subsingleton.elim _ _
  obtain rfl : y2 = 0 := Subsingleton.elim _ _
  rw [part_block_at]
  pointwise
  unfold partOf
  blk_point [iblk0, block_index t]

/-- The log row after the first kernel, at an event. -/
theorem log_arr (c : Dev nD) (n : Fin 1024) :
    ((dat0 V c).arrAt 6 cfg0.N : FVec Ideal S1x1152 .f32) (ix2 0 ⟨n.val, by omega⟩)
      = logOf (V c main_v9) (V c main_v0) (V c main_arg3) (V c main_v14) n := by
  refine ((dat0 V c).arrAt_apply_of_coversWhere 6
    (logRow (V c main_v9) (V c main_v0) (V c main_arg3) (V c main_v14))
    (P := fun i : S1x1152.Idx => (i 1).val < 1024) (fun β => β 1 < 4) (by decide +kernel) (fun t hf y => ?_)
    (fun j => by blk_simp [Pipeline.Window.cell_apply]; omega) _).trans ?_
  · have ht : t.val < 4 := t.isLt
    have he : ((((cfg0.win 6).blk t).view.emb y : S1x1152.Idx) 1).val = t.val * 256 + (y 1).val := by
      blk_simp [block_index t]
    generalize ((cfg0.win 6).blk t).view.emb y = e at he ⊢
    obtain ⟨z, hz, hzv⟩ : ∃ z : S1x256.Idx, z = (cfg0.win 6).xinj (cfg0.grid.coords t) y
        ∧ t.val * 256 + (y 1).val = t.val * 256 + (z 1).val := ⟨_, rfl, rfl⟩
    replace he := he.trans hzv
    rw [← hz]
    clear hz hzv
    rw [after0_6]
    frame_out
    idx_vars z
    obtain rfl : z0 = 0 := Subsingleton.elim _ _
    replace he : ((e : S1x1152.Idx) 1).val = t.val * 256 + z1.val := he
    have hn : t.val * 256 + z1.val < 1024 := by omega
    have hr : logRow (V c main_v9) (V c main_v0) (V c main_arg3) (V c main_v14) e
        = logOf (V c main_v9) (V c main_v0) (V c main_arg3) (V c main_v14) ⟨t.val * 256 + z1.val, hn⟩ := by
      unfold logRow
      rw [dif_pos (show ((e : S1x1152.Idx) 1).val < 1024 by omega)]
      exact congrArg _ (Fin.ext he)
    refine Eq.trans ?_ hr.symm
    blk_simp
    rw [log_block_at]
    pointwise
    unfold logOf
    have hq : ∀ d : Fin 16, (t.val * 256 + z1.val) / 256 * 256 + d.val = t.val * 256 + d.val := fun d => by omega
    simp only [hq]
    blk_point [iblk0, block_index t]
  · exact (if_pos n.isLt).trans (dif_pos n.isLt)

end Cert.KernelIdeal.Result

end
-- ==== Proof.Region1.lean ====
/- What the second kernel leaves in the result array, over the log row, the parts and the time grid. -/
module

public import proofs.«01_k».proof.Proof.Gen.KernelIdeal.Frame
public import proofs.«01_k».proof.Proof.Payload
public import Idealize.ShloMosaic.Lib.Claim

@[expose] public section

set_option maxRecDepth 16384

noncomputable section

namespace Cert.KernelIdeal.Result

open Idealize.ShloMosaic Cert.KernelIdeal Cert.KernelIdeal.Gen Idealize.ShloMosaic.TcCoe Hawkes

/-- The last entry over the parts and the time grid: the parts' sum times the grid's step over 512. -/
def totalOf (part : FVec Ideal S4x1x1 .f32) (tg : FVec Ideal S1x64 .f32) : EReal :=
  (∑ p, part (ix3 p 0 0)) * Ideal.div (tg (ix2 0 1) - tg (ix2 0 0)) (Ideal.ofBits .f32 0x44000000#32)

/-- The result over the log row, the parts and the time grid. -/
def outOf (lg : FVec Ideal S1x1152 .f32) (part : FVec Ideal S4x1x1 .f32) (tg : FVec Ideal S1x64 .f32) :
    FVec Ideal S1025 .f32 :=
  fun i => if h : (i 0).val < 1024 then lg (ix2 0 ⟨(i 0).val, by omega⟩)
    else totalOf part tg

variable (V : (c : Dev nD) → (b : Ref sig .tc) → Buf (Elt Ideal) ((c : Thread nD τ).loc b))

/-- Every array of the second kernel is one block. -/
theorem one_block : ∀ t : Fin grid1.N, win1_0.index t = ![0, 0] ∧ win1_1.index t = ![0, 0, 0]
    ∧ win1_2.index t = ![0, 0] ∧ win1_3.index t = ![0] := by decide +kernel

/-- The result array after the second kernel. -/
theorem out_arr (c : Dev nD) : (dat1 V c).arrAt 3 cfg1.N
    = outOf (V c main_v15_0) (V c main_v15_1) (V c main_v16) := by
  refine (dat1 V c).arrAt_eq_of_covers 3 _ (by decide +kernel) fun t _ y => ?_
  blk_simp
  rw [after1_3]
  unfold outsAt1
  frame_out
  idx_vars y
  have he : ((((View.whole main_v17).slice (win1_3.rect t)).emb (ix1 y0) : S1025.Idx) 0).val = y0.val := by
    blk_simp [one_block t]
  generalize ((View.whole main_v17).slice (win1_3.rect t)).emb (ix1 y0) = e at he ⊢
  canon_tiles x k using (View.cover_of_tiledBy _ ![1] (by sl_kernel_rfl) _)
  · replace he : ((e : S1025.Idx) 0).val = y0.val := he
    replace k0 : y0.val = 1024 + (x 0).val := k0
    have hr : outOf (V c main_v15_0) (V c main_v15_1) (V c main_v16) e
        = totalOf (V c main_v15_1) (V c main_v16) := by
      unfold outOf
      exact dif_neg (show ¬((e : S1025.Idx) 0).val < 1024 by omega)
    refine Eq.trans ?_ hr.symm
    idx_vars x
    obtain rfl : x0 = 0 := Subsingleton.elim _ _
    rw [total_at]
    pointwise
    unfold totalOf
    blk_point [iblk1, one_block t]
  · replace he : ((e : S1025.Idx) 0).val = y0.val := he
    replace k0 : y0.val = (x 0).val := k0
    idx_vars x
    have hr : outOf (V c main_v15_0) (V c main_v15_1) (V c main_v16) e
        = (V c main_v15_0 : FVec Ideal S1x1152 .f32) (ix2 0 ⟨x0.val, by omega⟩) := by
      unfold outOf
      refine (dif_pos (show ((e : S1025.Idx) 0).val < 1024 from ?_)).trans ?_
      · rw [he, k0]; exact x0_lt
      · exact congrArg _ (congrArg _ (Fin.ext (he.trans k0)))
    refine Eq.trans ?_ hr.symm
    rw [log_copy_at]
    pointwise
    blk_point [iblk1, one_block t]

end Cert.KernelIdeal.Result

end
-- ==== Proof.Equation.lean ====
/- The equation: what the kernels leave, over the packed arrays, is the specification over the arguments. -/
module

public import proofs.«01_k».proof.Proof.Region0
public import proofs.«01_k».proof.Proof.Region1

@[expose] public section

set_option maxRecDepth 16384

noncomputable section

namespace Cert.KernelIdeal.Result

open Idealize.ShloMosaic Cert.KernelIdeal Cert.KernelIdeal.Gen Hawkes

/-- What the packed arrays of the first kernel hold, in the arguments. -/
structure Packed (park : FVec Ideal S1024x20 .f32) (px : FVec Ideal S1024x2x2048 .f32)
    (zn : FVec Ideal S1024x512 .f32) (xg : FVec Ideal S2x512 .f32) (scal : FVec Ideal S1x3 .f32)
    (x : FVec Ideal S1024x2 .f32) (t : FVec Ideal S1024 .f32) (past : FVec Ideal S1024x2048x2 .f32)
    (cov : FVec Ideal S1024x16 .f32) (z : FVec Ideal S64x512x16 .f32) (cells : FVec Ideal S512x2 .f32)
    (β : FVec Ideal S16 .f32) (α σ ω : EReal) : Prop where
  first : ∀ n : Fin 1024, park (ix2 n 0) = x (ix2 n 0)
  second : ∀ n : Fin 1024, park (ix2 n 1) = x (ix2 n 1)
  time : ∀ n : Fin 1024, park (ix2 n 2) = t (ix1 n)
  covariate : ∀ (n : Fin 1024) (d : Fin 16), park (ix2 n ⟨3 + d.val, by omega⟩) = cov (ix2 n d)
  coefficient : ∀ n : Fin 1024, park (ix2 n 19) = β (ix1 ⟨n.val % 16, by omega⟩)
  position : ∀ (n : Fin 1024) (d : Fin 2) (j : Fin 2048), px (ix3 n d j) = past (ix3 n j d)
  node : ∀ (r : Fin 1024) (g : Fin 512), zn (ix2 r g) = z (ix3 ⟨r.val / 16, by omega⟩ g ⟨r.val % 16, by omega⟩)
  cell : ∀ (d : Fin 2) (g : Fin 512), xg (ix2 d g) = cells (ix2 g d)
  alpha : scal (ix2 0 0) = α
  sigma : scal (ix2 0 1) = σ
  omega : scal (ix2 0 2) = ω

variable {park : FVec Ideal S1024x20 .f32} {px : FVec Ideal S1024x2x2048 .f32} {zn : FVec Ideal S1024x512 .f32}
  {xg : FVec Ideal S2x512 .f32} {scal : FVec Ideal S1x3 .f32} {x : FVec Ideal S1024x2 .f32} {t : FVec Ideal S1024 .f32}
  {past : FVec Ideal S1024x2048x2 .f32} {cov : FVec Ideal S1024x16 .f32} {z : FVec Ideal S64x512x16 .f32}
  {cells : FVec Ideal S512x2 .f32} {β : FVec Ideal S16 .f32} {α σ ω : EReal}

/-- The log row over the packed arrays is the log intensity over the arguments. -/
theorem log_eq (h : Packed park px zn xg scal x t past cov z cells β α σ ω) (hσ : σ ≠ 0) (pt : FVec Ideal S1024x2048 .f32)
    (n : Fin 1024) : logOf park px pt scal n = logSpec x t past pt cov β α σ ω n := by
  have hc : ∀ d : Fin 16, park (ix2 ⟨n.val / 256 * 256 + d.val, by omega⟩ 19) = β (ix1 d) := fun d => by
    rw [h.coefficient]
    exact congrArg β (congrArg ix1 (Fin.ext (show (n.val / 256 * 256 + d.val) % 16 = d.val by omega)))
  unfold logOf logSpec
  simp only [h.first, h.second, h.time, h.covariate, hc, h.position, h.alpha, h.sigma, h.omega]
  rw [excited_sum hσ]
  simp only [dist2, Fin.sum_univ_two]

/-- The part of a block over the packed arrays, over the arguments. -/
theorem part_eq (h : Packed park px zn xg scal x t past cov z cells β α σ ω) (i : Fin 4) :
    partOf park zn xg scal i
      = (∑ r : Fin 256, ∑ g : Fin 512, if r.val % 16 = 0 then baseSpec z β ⟨i.val * 16 + r.val / 16, by omega⟩ g else 0)
        + (∑ n : Fin 256,
            (∑ g, spatial σ (dist2 (fun d => cells (ix2 g d)) fun d => x (ix2 ⟨i.val * 256 + n.val, by omega⟩ d)))
            * (∑ s : Fin 64, temporal ω (((s.val : ℝ) : EReal) * Ideal.ofBits .f32 0x3C800000#32
                - t (ix1 ⟨i.val * 256 + n.val, by omega⟩))))
          * scale α σ ω := by
  unfold partOf
  refine congrArg₂ (· + ·) ?_ ?_
  · refine Finset.sum_congr rfl fun r _ => Finset.sum_congr rfl fun g _ => ?_
    by_cases hr : r.val % 16 = 0
    · rw [dif_pos hr, if_pos hr]
      unfold baseSpec
      refine congrArg (max · eps) ?_
      refine Finset.sum_congr rfl fun k _ => ?_
      rw [h.node, h.coefficient]
      have h1 : (i.val * 256 + (r.val + k.val)) / 16 = i.val * 16 + r.val / 16 := by omega
      have h2 : (i.val * 256 + (r.val + k.val)) % 16 = k.val := by omega
      simp only [h1, h2, Fin.eta]
    · rw [dif_neg hr, if_neg hr]
  · simp only [h.first, h.second, h.time, h.cell, h.alpha, h.sigma, h.omega, dist2, Fin.sum_univ_two,
      sq_sub_comm (x _) (cells _)]

/-- The parts' sum times the grid's step over 512 is the integral over the arguments. -/
theorem total_eq (h : Packed park px zn xg scal x t past cov z cells β α σ ω) (hσ : σ ≠ 0) (tg : FVec Ideal S64 .f32)
    (hg : ∀ s : Fin 64, tg (ix1 s) = ((s.val : ℝ) : EReal) * Ideal.ofBits .f32 0x3C800000#32)
    (part : FVec Ideal S4x1x1 .f32) (hp : ∀ i : Fin 4, part (ix3 i 0 0) = partOf park zn xg scal i)
    (tb : FVec Ideal S1x64 .f32) (ht : ∀ s : Fin 64, tb (ix2 0 s) = tg (ix1 s)) :
    totalOf part tb = intSpec x t z cells tg β α σ ω := by
  unfold totalOf intSpec
  rw [cell_size, ht 0, ht 1]
  refine congrArg₂ (· * ·) ?_ rfl
  simp only [hp, part_eq h]
  refine (integral_sum (baseSpec z β)
    (fun n g => spatial σ (dist2 (fun d => cells (ix2 g d)) fun d => x (ix2 n d)))
    (fun n s => temporal ω (((s.val : ℝ) : EReal) * Ideal.ofBits .f32 0x3C800000#32 - t (ix1 n)))
    (fun _ _ => spatial_nonneg _ _) (fun _ _ => temporal_nonneg _ _) (scale α σ ω)).trans ?_
  refine Finset.sum_congr rfl fun q _ => ?_
  refine congrArg₂ (· + ·) rfl ?_
  refine Finset.sum_congr rfl fun n _ => ?_
  rw [excitation_eq hσ, hg]

end Cert.KernelIdeal.Result

end
-- ==== Proof.KernelValue.lean ====
/- What the kernel program leaves in its result array, over the arguments. -/
module

public import proofs.«01_k».proof.Proof.Entry
public import proofs.«01_k».proof.Proof.Equation

@[expose] public section

set_option maxRecDepth 16384

noncomputable section

namespace Cert.KernelIdeal.Result

open Idealize.ShloMosaic Cert.KernelIdeal Cert.KernelIdeal.Gen Idealize.ShloMosaic.TcCoe Hawkes

variable (m : (ℓ : Loc nD τ sig) → Buf (Elt Ideal) ℓ) (ρ : Dev nD → PrngReg)

/-- The arrays the first kernel reads hold the arguments. -/
theorem packed (c : Dev nD) : Packed (V1 m ρ c main_v9) (V1 m ρ c main_v0) (V1 m ρ c main_v2) (V1 m ρ c main_v3)
    (V1 m ρ c main_v14) (m ((c : Thread nD τ).loc main_arg0)) (m ((c : Thread nD τ).loc main_arg1))
    (m ((c : Thread nD τ).loc main_arg2)) (m ((c : Thread nD τ).loc main_arg4)) (m ((c : Thread nD τ).loc main_arg5))
    (m ((c : Thread nD τ).loc main_arg6)) (m ((c : Thread nD τ).loc main_arg8))
    ((m ((c : Thread nD τ).loc main_arg9) : FVec Ideal S_ .f32) ix0)
    ((m ((c : Thread nD τ).loc main_arg10) : FVec Ideal S_ .f32) ix0)
    ((m ((c : Thread nD τ).loc main_arg11) : FVec Ideal S_ .f32) ix0) where
  first := entry_x0 m ρ c
  second := entry_x1 m ρ c
  time := entry_t m ρ c
  covariate := entry_cov m ρ c
  coefficient := entry_beta m ρ c
  position := entry_px m ρ c
  node := entry_zn m ρ c
  cell := entry_xg m ρ c
  alpha := entry_alpha m ρ c
  sigma := entry_sigma m ρ c
  omega := entry_omega m ρ c

/-- The result array at an event is the log intensity there. -/
theorem result_log (c : Dev nD) (hσ : (m ((c : Thread nD τ).loc main_arg10) : FVec Ideal S_ .f32) ix0 ≠ (0 : EReal))
    (n : Fin 1024) :
    ((dat1 (V3 m ρ) c).arrAt 3 cfg1.N : FVec Ideal S1025 .f32) (ix1 ⟨n.val, by omega⟩)
      = logSpec (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg8)) ((m ((c : Thread nD τ).loc main_arg9) : FVec Ideal S_ .f32) ix0)
          ((m ((c : Thread nD τ).loc main_arg10) : FVec Ideal S_ .f32) ix0)
          ((m ((c : Thread nD τ).loc main_arg11) : FVec Ideal S_ .f32) ix0) n := by
  rw [out_arr (V3 m ρ) c]
  refine (dif_pos n.isLt).trans ?_
  rw [entry_log]
  refine (log_arr (V1 m ρ) c n).trans ?_
  rw [entry_pt]
  exact log_eq (packed m ρ c) hσ _ n

/-- The result array's last entry is the integral. -/
theorem result_int (c : Dev nD) (hσ : (m ((c : Thread nD τ).loc main_arg10) : FVec Ideal S_ .f32) ix0 ≠ (0 : EReal))
    (hg : ∀ s : Fin 64, (m ((c : Thread nD τ).loc main_arg7) : FVec Ideal S64 .f32) (ix1 s)
      = ((s.val : ℝ) : EReal) * Ideal.ofBits .f32 0x3C800000#32) :
    ((dat1 (V3 m ρ) c).arrAt 3 cfg1.N : FVec Ideal S1025 .f32) (ix1 ⟨1024, by omega⟩)
      = intSpec (m ((c : Thread nD τ).loc main_arg0)) (m ((c : Thread nD τ).loc main_arg1))
          (m ((c : Thread nD τ).loc main_arg5)) (m ((c : Thread nD τ).loc main_arg6)) (m ((c : Thread nD τ).loc main_arg7))
          (m ((c : Thread nD τ).loc main_arg8)) ((m ((c : Thread nD τ).loc main_arg9) : FVec Ideal S_ .f32) ix0)
          ((m ((c : Thread nD τ).loc main_arg10) : FVec Ideal S_ .f32) ix0)
          ((m ((c : Thread nD τ).loc main_arg11) : FVec Ideal S_ .f32) ix0) := by
  rw [out_arr (V3 m ρ) c]
  refine (dif_neg (lt_irrefl 1024)).trans ?_
  refine total_eq (packed m ρ c) hσ _ hg _ (fun i => ?_) _ (entry_tg m ρ c)
  rw [entry_part]
  exact congrFun (part_arr (V1 m ρ) c) _

end Cert.KernelIdeal.Result

end
-- ==== Proof.RefValue.lean ====
/- What the reference's result array holds: the log intensities in its first 1024 entries, the integral in its last. -/
module

public import proofs.«01_k».proof.Proof.Gen.ReferenceIdeal.Run
public import proofs.«01_k».proof.Proof.Spec
public import Idealize.ShloMosaic.Lib.Pipeline.ValueKit
public import Idealize.ShloMosaic.Lib.Pointwise

@[expose] public section

set_option maxRecDepth 16384

noncomputable section

namespace Cert.ReferenceIdeal.Result

open Idealize.ShloMosaic Cert.ReferenceIdeal Cert.ReferenceIdeal.Gen Idealize.ShloMosaic.TcCoe
open Cert.ReferenceIdeal.Value Hawkes

variable (m : (ℓ : Loc nD τ sig) → Buf (Elt Ideal) ℓ)

/-- The time grid repeated for every cell, at a flattened position. -/
theorem time_flat_at (X : FVec Ideal S64 .f32) (h1) (h2) (q : Fin 32768) :
    shapeCast S32768 (broadcastInDim S64x512 ![0] h1 X) h2 (ix1 q) = X (ix1 ⟨q.val / 512, by omega⟩) := by
  pointwise

/-- The cells repeated for every time step, at a flattened position. -/
theorem cell_flat_at (X : FVec Ideal S512x2 .f32) (h1) (h2) (h3) (q : Fin 32768) (j : Fin 2) :
    shapeCast S32768x2 (broadcastInDim S64x512x1x2 ![0, 1, 2, 3] h1 (shapeCast S1x512x1x2 X h3)) h2 (ix2 q j)
      = X (ix2 ⟨q.val % 512, by omega⟩ j) := by
  pointwise

/-- The grid covariates at a flattened position. -/
theorem cov_flat_at (X : FVec Ideal S64x512x16 .f32) (h1) (q : Fin 32768) (j : Fin 16) :
    shapeCast S32768x16 X h1 (ix2 q j) = X (ix3 ⟨q.val / 512, by omega⟩ ⟨q.val % 512, by omega⟩ j) := by
  pointwise

/-- The excitation, with the elapsed time masked a second time under the exponential. -/
theorem excitation_masked (α σ ω r s : EReal) :
    (if 0 < s then
        α * Ideal.div (Ideal.exp (Ideal.div (-r) (Ideal.ofBits .f32 0x40000000#32 * σ * σ))) (Ideal.ofBits .f32 0x40C90FDB#32 * σ * σ)
          * (ω * Ideal.exp (-ω * if 0 < s then s else id (constant (F := Ideal) S_ FTy.f32 0#32) ix0))
      else id (constant (F := Ideal) S_ FTy.f32 0#32) ix0)
      = excitation α σ ω r s := by
  unfold excitation twoPi
  split
  · rfl
  · exact Ideal.ofBits_zero_f32

set_option maxHeartbeats 1000000 in
/-- The reference's result at an event is that event's log intensity. -/
theorem log_at (c : Dev nD) (n : Fin 1024) :
    (res_main_v94 m c : FVec Ideal S1025 .f32) (ix1 ⟨n.val, by omega⟩)
      = logSpec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg8))
          ((m ((c.tc : Thread nD τ).loc main_arg9) : FVec Ideal S_ .f32) ix0)
          ((m ((c.tc : Thread nD τ).loc main_arg10) : FVec Ideal S_ .f32) ix0)
          ((m ((c.tc : Thread nD τ).loc main_arg11) : FVec Ideal S_ .f32) ix0) n := by
  unfold res_main_v94
  generalize (broadcastInDim (s := S_) S1 ![] bcast_S_S1 _ : FVec Ideal S1 .f32) = I
  pointwise
  simp only [excitation_masked]
  rfl

set_option maxHeartbeats 1000000 in
/-- The reference's last entry is the integral. -/
theorem int_at (c : Dev nD) :
    (res_main_v94 m c : FVec Ideal S1025 .f32) (ix1 ⟨1024, by omega⟩)
      = intSpec (m ((c.tc : Thread nD τ).loc main_arg0)) (m ((c.tc : Thread nD τ).loc main_arg1))
          (m ((c.tc : Thread nD τ).loc main_arg5)) (m ((c.tc : Thread nD τ).loc main_arg6))
          (m ((c.tc : Thread nD τ).loc main_arg7)) (m ((c.tc : Thread nD τ).loc main_arg8))
          ((m ((c.tc : Thread nD τ).loc main_arg9) : FVec Ideal S_ .f32) ix0)
          ((m ((c.tc : Thread nD τ).loc main_arg10) : FVec Ideal S_ .f32) ix0)
          ((m ((c.tc : Thread nD τ).loc main_arg11) : FVec Ideal S_ .f32) ix0) := by
  unfold res_main_v94
  generalize htf : shapeCast S32768 (broadcastInDim S64x512 ![0] bcast_S64_S64x512_0 (m ((c.tc : Thread nD τ).loc main_arg7))) shapeCasts_S64x512_S32768 = tf
  generalize hxf : shapeCast S32768x2 _ shapeCasts_S64x512x1x2_S32768x2 = xf
  generalize hzf : shapeCast S32768x16 _ shapeCasts_S64x512x16_S32768x16 = zf
  generalize (Host.log _ : FVec Ideal S1024 .f32) = L
  pointwise
  simp only [excitation_masked]
  have ht : ∀ q : Fin 32768, tf (ix1 q) = (m ((c.tc : Thread nD τ).loc main_arg7) : FVec Ideal S64 .f32) (ix1 ⟨q.val / 512, by omega⟩) := fun q => by
    rw [← htf]; exact time_flat_at (m ((c.tc : Thread nD τ).loc main_arg7)) _ _ q
  have hx : ∀ (q : Fin 32768) (j : Fin 2), xf (ix2 q j) = (m ((c.tc : Thread nD τ).loc main_arg6) : FVec Ideal S512x2 .f32) (ix2 ⟨q.val % 512, by omega⟩ j) := fun q j => by
    rw [← hxf]; exact cell_flat_at (m ((c.tc : Thread nD τ).loc main_arg6)) _ _ _ q j
  have hz : ∀ (q : Fin 32768) (j : Fin 16), zf (ix2 q j) = (m ((c.tc : Thread nD τ).loc main_arg5) : FVec Ideal S64x512x16 .f32)
      (ix3 ⟨q.val / 512, by omega⟩ ⟨q.val % 512, by omega⟩ j) := fun q j => by
    rw [← hzf]; exact cov_flat_at (m ((c.tc : Thread nD τ).loc main_arg5)) _ q j
  simp only [ht, hx, hz]
  rfl

end Cert.ReferenceIdeal.Result

end
-- ==== Proof.Pre.lean ====
/- What the precondition says: the time grid is `s / 64` and sigma is not zero. -/
module

public import proofs.«01_k».proof.Pre_uniform_time_grid
public import proofs.«01_k».proof.Proof.Alg
public import Idealize.ShloMosaic.Lib.Pointwise
public import Idealize.ShloMosaic.Lib.WordCmp

@[expose] public section

set_option maxRecDepth 16384

noncomputable section

namespace Cert.Pre_uniform_time_grid.Result

open Idealize.ShloMosaic Hawkes

/-- The side conditions of the precondition's operations. -/
theorem facts : Cert.Pre_uniform_time_grid.Facts where
  bcast_S_S64 := by decide
  reducesTo_S64_S_d0 := by decide
  h_S_ := by decide

attribute [local instance] facts

/-- One bit is set by a conjunction exactly when both sides set it. -/
theorem andi_one (x y : BitVec 1) : IntOp.andi x y = 1#1 ↔ x = 1#1 ∧ y = 1#1 := by revert x y; decide

/-- The bit of a decided statement is set exactly when the statement holds. -/
theorem decide_one (p : Prop) [Decidable p] : BitVec.ofBool (decide p) = 1#1 ↔ p := by
  by_cases h : p <;> simp [h]

/-- A conjunction of bits over a finite set is set exactly when every bit is. -/
theorem fold_one {ι : Type*} (S : Finset ι) (f : ι → BitVec 1) :
    Finset.fold IntOp.andi 1#1 f S = 1#1 ↔ ∀ i ∈ S, f i = 1#1 := by
  classical
  induction S using Finset.induction_on with
  | empty => simp
  | insert a T ha ih => rw [Finset.fold_insert ha, andi_one, ih]; simp

/-- The word of a small number, as a float, over 64. -/
theorem grid_value (s : Fin 64) :
    Ideal.div (FloatOps.sitofp (F := Ideal) FTy.f32 (BitVec.ofNat 32 s.val)) (Ideal.ofBits .f32 0x42800000#32)
      = ((s.val : ℝ) : EReal) * Ideal.ofBits .f32 0x3C800000#32 := by
  have hw : FloatOps.sitofp (F := Ideal) FTy.f32 (BitVec.ofNat 32 s.val) = ((s.val : ℝ) : EReal) := by
    have h : (BitVec.ofNat 32 s.val).toInt = (s.val : ℤ) := by
      rw [BitVec.toInt_eq_toNat_of_lt (by rw [BitVec.toNat_ofNat]; omega), BitVec.toNat_ofNat,
        Nat.mod_eq_of_lt (by omega)]
    show (((BitVec.ofNat 32 s.val).toInt : ℝ) : EReal) = _
    rw [h]; norm_cast
  rw [hw, ofBits_64, ofBits_inv_64, Ideal.div_coe (by norm_num)]

/-- Where the precondition holds, the time grid is the uniform one and sigma is not zero. -/
theorem grid_and_sigma (a0 : FVec Ideal S1024x2 .f32) (a1 : FVec Ideal S1024 .f32) (a2 : FVec Ideal S1024x2048x2 .f32)
    (a3 : FVec Ideal S1024x2048 .f32) (a4 : FVec Ideal S1024x16 .f32) (a5 : FVec Ideal S64x512x16 .f32)
    (a6 : FVec Ideal S512x2 .f32) (a7 : FVec Ideal S64 .f32) (a8 : FVec Ideal S16 .f32) (a9 a10 a11 : FVec Ideal S_ .f32)
    (h : fn (F := Ideal) a0 a1 a2 a3 a4 a5 a6 a7 a8 a9 a10 a11 = fun _ => 1#1) :
    (∀ s : Fin 64, a7 (ix1 s) = ((s.val : ℝ) : EReal) * Ideal.ofBits .f32 0x3C800000#32) ∧ a10 ix0 ≠ 0 := by
  have h0 := congrFun h ix0
  pointwise [fn] at h0
  obtain ⟨hg, hs⟩ := (andi_one _ _).mp h0
  refine ⟨fun s => ?_, ?_⟩
  · rw [← grid_value]
    exact (decide_one _).mp ((fold_one _ _).mp hg s (Finset.mem_univ s))
  · exact (decide_one _).mp hs

end Cert.Pre_uniform_time_grid.Result

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KernelValue
public import proofs.«01_k».proof.Proof.RefValue
public import proofs.«01_k».proof.Proof.Pre
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

attribute [local instance] Cert.Pre_uniform_time_grid.Result.facts

/-- The kernel program at the machine's floats runs, keeps its arguments and ends quiet. -/
theorem frame_kernel : Cert.quiescent_Kernel := fun m ρ _ => Cert.Kernel.Gen.frame m ρ

/-- The kernel program over the extended reals runs, keeps its arguments and ends quiet. -/
theorem frame_ideal : Cert.quiescent_KernelIdeal := fun m ρ _ => Cert.KernelIdeal.Gen.frame m ρ

/-- The same, where the precondition holds. -/
theorem frame_ideal_pre : Cert.quiescent_KernelIdeal_pre_uniform_time_grid :=
  fun m ρ _ => Cert.KernelIdeal.Gen.frame m ρ

/-- The reference runs, keeps its arguments and ends quiet: it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The same, where the precondition holds. -/
theorem frame_reference_pre : Cert.quiescent_ReferenceIdeal_pre_uniform_time_grid :=
  fun m ρ _ => frame_reference m ρ trivial

/-- The kernel's result is the reference's, over the extended reals. -/
theorem algebraic : Cert.algebraic_KernelIdeal_ReferenceIdeal_pre_uniform_time_grid := by
  pair_intro
  · run_from Cert.KernelIdeal.Result.run m g
  · run_from Cert.ReferenceIdeal.Value.run m' g'
    obtain ⟨hg, hs⟩ := Cert.Pre_uniform_time_grid.Result.grid_and_sigma _ _ _ _ _ _ _ _ _ _ _ _ (hpre c)
    obtain ⟨a0, a1, a2, a3, a4, a5, a6, a7, a8, a9, a10, a11⟩ := hagree c
    refine funext fun i => ?_
    obtain ⟨k, rfl⟩ : ∃ k : Fin 1025, i = (ix1 k : Cert.ReferenceIdeal.S1025.Idx) := ⟨i 0, eq_ix1 _⟩
    by_cases hk : k.val < 1024
    · have h := Cert.ReferenceIdeal.Result.log_at m' c ⟨k.val, hk⟩
      rw [a0, a1, a2, a3, a4, a8, a9, a10, a11] at h
      exact h.trans (Cert.KernelIdeal.Result.result_log m g c hs ⟨k.val, hk⟩).symm
    · rw [show k = (⟨1024, by decide⟩ : Fin 1025) from Fin.ext (show k.val = 1024 by omega)]
      have h := Cert.ReferenceIdeal.Result.int_at m' c
      rw [a0, a1, a5, a6, a7, a8, a9, a10, a11] at h
      exact h.trans (Cert.KernelIdeal.Result.result_int m g c hs hg).symm

/-- Everything the certificate claims. -/
theorem claim : Cert.Claim :=
  ⟨Cert.Kernel.Gen.facts, Cert.KernelIdeal.Gen.facts, Cert.ReferenceIdeal.Gen.facts,
    Cert.Pre_uniform_time_grid.Result.facts, frame_kernel, frame_ideal, frame_ideal_pre, frame_reference,
    frame_reference_pre, trivial, algebraic⟩

end Cert.Proof

end
